-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_updated_cells_typed [hPre_updated_cells_typed : Cert.Pre_updated_cells_typed.Facts] (m : (ℓ : Loc Cert.KernelIdeal.nD Cert.KernelIdeal.τ Cert.KernelIdeal.sig) → Buf (Elt Ideal) ℓ) : Prop :=
  ∀ c : Dev Cert.KernelIdeal.nD,
    (Cert.Pre_updated_cells_typed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_updated_cells_typed [hPre_updated_cells_typed : Cert.Pre_updated_cells_typed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_updated_cells_typed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_updated_cells_typed [hKernelIdeal : Cert.KernelIdeal.Facts] [hPre_updated_cells_typed : Cert.Pre_updated_cells_typed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_updated_cells_typed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_updated_cells_typed [hReferenceIdeal : Cert.ReferenceIdeal.Facts] [hPre_updated_cells_typed : Cert.Pre_updated_cells_typed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_updated_cells_typed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "y_scale" .f32 0x3ADA740E#32 ((1 / 600 : ℝ) : EReal)
  ∧ IdealRules.named_const.Statement Cert.KernelIdeal.κ "z_scale" .f32 0x3BCCCCCD#32 ((1 / 160 : ℝ) : EReal)
  ∧ IdealRules.named_const.Statement Cert.KernelIdeal.κ "y_rate" .f32 0xBB1C09C1#32 ((-1 / 420 : ℝ) : EReal)
  ∧ IdealRules.named_const.Statement Cert.KernelIdeal.κ "z_rate" .f32 0xBADA740E#32 ((-1 / 600 : ℝ) : EReal)
  ∧ IdealRules.named_const.Statement Cert.KernelIdeal.κ "base" .f32 0x3F463B0B#32 ((Real.sqrt (10059619 / 16777216) : ℝ) : EReal)

def algebraic_KernelIdeal_ReferenceIdeal_pre_updated_cells_typed [hKernelIdeal : Cert.KernelIdeal.Facts] [hReferenceIdeal : Cert.ReferenceIdeal.Facts] [hPre_updated_cells_typed : Cert.Pre_updated_cells_typed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_updated_cells_typed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_updated_cells_typed : Cert.Pre_updated_cells_typed.Facts),
    quiescent_Kernel (hKernel := hKernel)
    ∧ quiescent_KernelIdeal (hKernelIdeal := hKernelIdeal)
    ∧ quiescent_KernelIdeal_pre_updated_cells_typed (hKernelIdeal := hKernelIdeal) (hPre_updated_cells_typed := hPre_updated_cells_typed)
    ∧ quiescent_ReferenceIdeal (hReferenceIdeal := hReferenceIdeal)
    ∧ quiescent_ReferenceIdeal_pre_updated_cells_typed (hReferenceIdeal := hReferenceIdeal) (hPre_updated_cells_typed := hPre_updated_cells_typed)
    ∧ preserves_Kernel_KernelIdeal
    ∧ algebraic_KernelIdeal_ReferenceIdeal_pre_updated_cells_typed (hKernelIdeal := hKernelIdeal) (hReferenceIdeal := hReferenceIdeal) (hPre_updated_cells_typed := hPre_updated_cells_typed)
-- ==== Pre_updated_cells_typed.lean ====
abbrev S4194304 : Shape := ⟨1, ![4194304]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel

variable [Facts]

def fn {F : FTy → Type} [FloatOps F] (main_arg0 : FVec F S4194304 .f32) (main_arg1 : FVec F S4194304 .f32) (main_arg2 : FVec F S4194304 .f32) (main_arg3 : IVec S4194304 32) (main_arg4 : IVec S4194304 32) (main_arg5 : FVec F S_ .f32) (main_arg6 : FVec F S_ .f32) : IVec S_ 1 :=
  let main_c : IVec S_ 32 := constantI S_ 32 1#32
  let main_v0 : IVec S4194304 32 := broadcastInDim S4194304 ![] bcast_S_S4194304 main_c
  let main_v1 : IVec S4194304 1 := cmpi .ne main_arg4 main_v0
  let main_c_0 : IVec S_ 32 := constantI S_ 32 0#32
  let main_v2 : IVec S4194304 32 := broadcastInDim S4194304 ![] bcast_S_S4194304 main_c_0
  let main_v3 : IVec S4194304 1 := cmpi .eq main_arg3 main_v2
  let main_v4 : IVec S4194304 1 := ori main_v1 main_v3
  let main_c_1 : IVec S_ 32 := constantI S_ 32 1#32
  let main_v5 : IVec S4194304 32 := broadcastInDim S4194304 ![] bcast_S_S4194304 main_c_1
  let main_v6 : IVec S4194304 1 := cmpi .eq main_arg3 main_v5
  let main_v7 : IVec S4194304 1 := ori main_v4 main_v6
  let main_c_2 : IVec S_ 1 := constantI S_ 1 1#1
  let main_v8 : IVec S_ 1 := (fun x v => Host.reduce IntOp.andi x v reducesTo_S4194304_S_d0 h_S_) main_v7 main_c_2
  main_v8
-- ==== Kernel.lean ====
abbrev S4194304 : Shape := ⟨1, ![4194304]⟩
abbrev S_ : Shape := ⟨0, ![]⟩
abbrev S1 : Shape := ⟨1, ![1]⟩
abbrev S2 : Shape := ⟨1, ![2]⟩
abbrev S524288 : Shape := ⟨1, ![524288]⟩

abbrev nBuf : Space → Nat
  | .hbm => 11
  | .vmem => 12
  | .smem => 1
  | _ => 0

abbrev bufTy : (tb : Table) → Fin (tcTables nBuf tb) → BufTy
  | .hbm, ⟨0, _⟩ => ⟨S4194304, .f32⟩
  | .hbm, ⟨1, _⟩ => ⟨S4194304, .f32⟩
  | .hbm, ⟨2, _⟩ => ⟨S4194304, .f32⟩
  | .hbm, ⟨3, _⟩ => ⟨S4194304, .i32⟩
  | .hbm, ⟨4, _⟩ => ⟨S4194304, .i32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S2, .f32⟩
  | .hbm, ⟨10, _⟩ => ⟨S4194304, .f32⟩
  | .local _ .vmem, ⟨0, _⟩ => ⟨S524288, .f32⟩
  | .local _ .vmem, ⟨1, _⟩ => ⟨S524288, .f32⟩
  | .local _ .vmem, ⟨2, _⟩ => ⟨S524288, .f32⟩
  | .local _ .vmem, ⟨3, _⟩ => ⟨S524288, .f32⟩
  | .local _ .vmem, ⟨4, _⟩ => ⟨S524288, .f32⟩
  | .local _ .vmem, ⟨5, _⟩ => ⟨S524288, .f32⟩
  | .local _ .vmem, ⟨6, _⟩ => ⟨S524288, .i32⟩
  | .local _ .vmem, ⟨7, _⟩ => ⟨S524288, .i32⟩
  | .local _ .vmem, ⟨8, _⟩ => ⟨S524288, .i32⟩
  | .local _ .vmem, ⟨9, _⟩ => ⟨S524288, .i32⟩
  | .local _ .vmem, ⟨10, _⟩ => ⟨S524288, .f32⟩
  | .local _ .vmem, ⟨11, _⟩ => ⟨S524288, .f32⟩
  | .local _ .smem, ⟨0, _⟩ => ⟨S2, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S524288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S524288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S524288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S524288 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S524288 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S524288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "base" => some ((Real.sqrt (10059619 / 16777216) : ℝ) : EReal)
  | "y_rate" => some ((-1 / 420 : ℝ) : EReal)
  | "y_scale" => some ((1 / 600 : ℝ) : EReal)
  | "z_rate" => some ((-1 / 600 : ℝ) : EReal)
  | "z_scale" => some ((1 / 160 : ℝ) : EReal)
  | _ => none
-- ==== ReferenceIdeal.lean ====
abbrev S4194304 : Shape := ⟨1, ![4194304]⟩
abbrev S_ : Shape := ⟨0, ![]⟩

abbrev nBuf : Space → Nat
  | .hbm => 81
  | .vmem => 0
  | .smem => 0
  | _ => 0

abbrev bufTy : (tb : Table) → Fin (tcTables nBuf tb) → BufTy
  | .hbm, ⟨0, _⟩ => ⟨S4194304, .f32⟩
  | .hbm, ⟨1, _⟩ => ⟨S4194304, .f32⟩
  | .hbm, ⟨2, _⟩ => ⟨S4194304, .f32⟩
  | .hbm, ⟨3, _⟩ => ⟨S4194304, .i32⟩
  | .hbm, ⟨4, _⟩ => ⟨S4194304, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4194304, .f32⟩
  | .hbm, ⟨10, _⟩ => ⟨S_, .f32⟩
  | .hbm, ⟨11, _⟩ => ⟨S4194304, .f32⟩
  | .hbm, ⟨12, _⟩ => ⟨S4194304, .f32⟩
  | .hbm, ⟨13, _⟩ => ⟨S4194304, .f32⟩
  | .hbm, ⟨14, _⟩ => ⟨S4194304, .f32⟩
  | .hbm, ⟨15, _⟩ => ⟨S_, .f32⟩
  | .hbm, ⟨16, _⟩ => ⟨S4194304, .f32⟩
  | .hbm, ⟨17, _⟩ => ⟨S4194304, .f32⟩
  | .hbm, ⟨18, _⟩ => ⟨S4194304, .f32⟩
  | .hbm, ⟨19, _⟩ => ⟨S_, .f32⟩
  | .hbm, ⟨20, _⟩ => ⟨S4194304, .f32⟩
  | .hbm, ⟨21, _⟩ => ⟨S4194304, .f32⟩
  | .hbm, ⟨22, _⟩ => ⟨S4194304, .f32⟩
  | .hbm, ⟨23, _⟩ => ⟨S_, .f32⟩
  | .hbm, ⟨24, _⟩ => ⟨S4194304, .f32⟩
  | .hbm, ⟨25, _⟩ => ⟨S4194304, .f32⟩
  | .hbm, ⟨26, _⟩ => ⟨S4194304, .f32⟩
  | .hbm, ⟨27, _⟩ => ⟨S_, .f32⟩
  | .hbm, ⟨28, _⟩ => ⟨S4194304, .f32⟩
  | .hbm, ⟨29, _⟩ => ⟨S4194304, .f32⟩
  | .hbm, ⟨30, _⟩ => ⟨S4194304, .f32⟩
  | .hbm, ⟨31, _⟩ => ⟨S_, .f32⟩
  | .hbm, ⟨32, _⟩ => ⟨S4194304, .f32⟩
  | .hbm, ⟨33, _⟩ => ⟨S4194304, .f32⟩
  | .hbm, ⟨34, _⟩ => ⟨S4194304, .f32⟩
  | .hbm, ⟨35, _⟩ => ⟨S4194304, .f32⟩
  | .hbm, ⟨36, _⟩ => ⟨S_, .f32⟩
  | .hbm, ⟨37, _⟩ => ⟨S4194304, .f32⟩
  | .hbm, ⟨38, _⟩ => ⟨S4194304, .f32⟩
  | .hbm, ⟨39, _⟩ => ⟨S4194304, .f32⟩
  | .hbm, ⟨40, _⟩ => ⟨S4194304, .f32⟩
  | .hbm, ⟨41, _⟩ => ⟨S4194304, .f32⟩
  | .hbm, ⟨42, _⟩ => ⟨S4194304, .f32⟩
  | .hbm, ⟨43, _⟩ => ⟨S4194304, .f32⟩
  | .hbm, ⟨44, _⟩ => ⟨S_, .f32⟩
  | .hbm, ⟨45, _⟩ => ⟨S4194304, .f32⟩
  | .hbm, ⟨46, _⟩ => ⟨S4194304, .f32⟩
  | .hbm, ⟨47, _⟩ => ⟨S4194304, .f32⟩
  | .hbm, ⟨48, _⟩ => ⟨S_, .f32⟩
  | .hbm, ⟨49, _⟩ => ⟨S4194304, .f32⟩
  | .hbm, ⟨50, _⟩ => ⟨S4194304, .f32⟩
  | .hbm, ⟨51, _⟩ => ⟨S4194304, .f32⟩
  | .hbm, ⟨52, _⟩ => ⟨S4194304, .f32⟩
  | .hbm, ⟨53, _⟩ => ⟨S_, .f32⟩
  | .hbm, ⟨54, _⟩ => ⟨S4194304, .f32⟩
  | .hbm, ⟨55, _⟩ => ⟨S4194304, .f32⟩
  | .hbm, ⟨56, _⟩ => ⟨S4194304, .f32⟩
  | .hbm, ⟨57, _⟩ => ⟨S4194304, .f32⟩
  | .hbm, ⟨58, _⟩ => ⟨S4194304, .f32⟩
  | .hbm, ⟨59, _⟩ => ⟨S_, .f32⟩
  | .hbm, ⟨60, _⟩ => ⟨S4194304, .f32⟩
  | .hbm, ⟨61, _⟩ => ⟨S4194304, .f32⟩
  | .hbm, ⟨62, _⟩ => ⟨S4194304, .f32⟩
  | .hbm, ⟨63, _⟩ => ⟨S4194304, .f32⟩
  | .hbm, ⟨64, _⟩ => ⟨S4194304, .f32⟩
  | .hbm, ⟨65, _⟩ => ⟨S_, .i32⟩
  | .hbm, ⟨66, _⟩ => ⟨S4194304, .i32⟩
  | .hbm, ⟨67, _⟩ => ⟨S4194304, .i1⟩
  | .hbm, ⟨68, _⟩ => ⟨S_, .i32⟩
  | .hbm, ⟨69, _⟩ => ⟨S4194304, .i32⟩
  | .hbm, ⟨70, _⟩ => ⟨S4194304, .i1⟩
  | .hbm, ⟨71, _⟩ => ⟨S4194304, .i1⟩
  | .hbm, ⟨72, _⟩ => ⟨S_, .i32⟩
  | .hbm, ⟨73, _⟩ => ⟨S4194304, .i32⟩
  | .hbm, ⟨74, _⟩ => ⟨S4194304, .i1⟩
  | .hbm, ⟨75, _⟩ => ⟨S_, .i32⟩
  | .hbm, ⟨76, _⟩ => ⟨S4194304, .i32⟩
  | .hbm, ⟨77, _⟩ => ⟨S4194304, .i1⟩
  | .hbm, ⟨78, _⟩ => ⟨S4194304, .i1⟩
  | .hbm, ⟨79, _⟩ => ⟨S4194304, .f32⟩
  | .hbm, ⟨80, _⟩ => ⟨S4194304, .f32⟩
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c : Ref sig .tc := ⟨.hbm, 65, rfl⟩
abbrev main_v46 : Ref sig .tc := ⟨.hbm, 66, rfl⟩
abbrev main_v47 : Ref sig .tc := ⟨.hbm, 67, rfl⟩
abbrev main_c_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_c_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Proof.Cell.lean ====
/- The arithmetic of one cell over the extended reals: the bit patterns that the two programs print as numbers, and the two
   identities by which the kernel's one exponential gives the reference's two. -/
module

public import Idealize.ShloMosaic.PureOps.Ideal
public import Idealize.ShloMosaic.PureOps.IdealRules

@[expose] public section

noncomputable section

namespace Cert.Cell

open Idealize.ShloMosaic

/-! ## The numbers -/

/-- The f32 literal 0.5996 is the dyadic 10059619 / 16777216. -/
theorem lit_base : Ideal.ofBits .f32 0x3F197F63#32 = ((10059619 / 16777216 : ℝ) : EReal) := by
  simp [Ideal.ofBits, Ideal.ieee, -EReal.coe_mul]; norm_num

/-- The pattern of 1 is the real 1. -/
theorem lit_1 : Ideal.ofBits .f32 0x3F800000#32 = ((1 : ℝ) : EReal) := by
  simp [Ideal.ofBits, Ideal.ieee, -EReal.coe_mul]; norm_num
/-- The pattern of 2 is the real 2. -/
theorem lit_2 : Ideal.ofBits .f32 0x40000000#32 = ((2 : ℝ) : EReal) := by
  simp [Ideal.ofBits, Ideal.ieee, -EReal.coe_mul]; norm_num
/-- The pattern of 3 is the real 3. -/
theorem lit_3 : Ideal.ofBits .f32 0x40400000#32 = ((3 : ℝ) : EReal) := by
  simp [Ideal.ofBits, Ideal.ieee, -EReal.coe_mul]; norm_num
/-- The pattern of 90 is the real 90. -/
theorem lit_90 : Ideal.ofBits .f32 0x42B40000#32 = ((90 : ℝ) : EReal) := by
  simp [Ideal.ofBits, Ideal.ieee, -EReal.coe_mul]; norm_num
/-- The pattern of 140 is the real 140. -/
theorem lit_140 : Ideal.ofBits .f32 0x430C0000#32 = ((140 : ℝ) : EReal) := by
  simp [Ideal.ofBits, Ideal.ieee, -EReal.coe_mul]; norm_num
/-- The pattern of 160 is the real 160. -/
theorem lit_160 : Ideal.ofBits .f32 0x43200000#32 = ((160 : ℝ) : EReal) := by
  simp [Ideal.ofBits, Ideal.ieee, -EReal.coe_mul]; norm_num
/-- The pattern of 200 is the real 200. -/
theorem lit_200 : Ideal.ofBits .f32 0x43480000#32 = ((200 : ℝ) : EReal) := by
  simp [Ideal.ofBits, Ideal.ieee, -EReal.coe_mul]; norm_num
/-- The pattern of 420 is the real 420. -/
theorem lit_420 : Ideal.ofBits .f32 0x43D20000#32 = ((420 : ℝ) : EReal) := by
  simp [Ideal.ofBits, Ideal.ieee, -EReal.coe_mul]; norm_num
/-- The pattern of 600 is the real 600. -/
theorem lit_600 : Ideal.ofBits .f32 0x44160000#32 = ((600 : ℝ) : EReal) := by
  simp [Ideal.ofBits, Ideal.ieee, -EReal.coe_mul]; norm_num

/-- The root of the literal 0.5996. -/
theorem sqrt_base : Ideal.sqrt ((10059619 / 16777216 : ℝ) : EReal) = ((Real.sqrt (10059619 / 16777216) : ℝ) : EReal) := by
  rw [Ideal.sqrt_coe, if_neg (by norm_num)]

/-! ## The decay -/

/-- A square is positive infinity or a real. -/
theorem square (d : EReal) : d * d = ⊤ ∨ ∃ r : ℝ, d * d = (r : EReal) := by
  induction d with
  | bot => exact .inl EReal.bot_mul_bot
  | top => exact .inl EReal.top_mul_top
  | coe x => exact .inr ⟨x * x, (EReal.coe_mul x x).symm⟩

/-- `exp (-d² / n)` for a positive real `n` is 0 at an infinite distance, -/
theorem decay_top {n : ℝ} (h : 0 < n) : Ideal.exp (Ideal.div (-⊤) (n : EReal)) = 0 := by
  rw [Ideal.div_coe h.ne', EReal.neg_top, EReal.bot_mul_coe_of_pos (by positivity), Ideal.exp_bot]
/-- and otherwise the real exponential. -/
theorem decay_coe {n : ℝ} (h : 0 < n) (r : ℝ) :
    Ideal.exp (Ideal.div (-(r : EReal)) (n : EReal)) = ((Real.exp (-r * (1 / n)) : ℝ) : EReal) := by
  rw [Ideal.div_coe h.ne', ← EReal.coe_neg, ← EReal.coe_mul, Ideal.exp_coe]

/-- With a negative rate multiplied in, as the kernel has it, it is 0 at an infinite distance, -/
theorem rate_top {q : ℝ} (h : q < 0) : Ideal.exp (⊤ * (q : EReal)) = 0 := by
  rw [EReal.top_mul_coe_of_neg h, Ideal.exp_bot]
/-- and otherwise the real exponential. -/
theorem rate_coe (q r : ℝ) : Ideal.exp ((r : EReal) * (q : EReal)) = ((Real.exp (r * q) : ℝ) : EReal) := by
  rw [← EReal.coe_mul, Ideal.exp_coe]

/-- A Y cell: with `a = exp (-d² / 420)`, `a * (3 - 2 * a²) = 3 * exp (-d² / 420) - 2 * exp (-d² / 140)`. -/
theorem y_poly (d : EReal) :
    Ideal.exp (d * d * ((-1 / 420 : ℝ) : EReal))
        * (((3 : ℝ) : EReal) - ((2 : ℝ) : EReal)
          * (Ideal.exp (d * d * ((-1 / 420 : ℝ) : EReal)) * Ideal.exp (d * d * ((-1 / 420 : ℝ) : EReal))))
      = ((3 : ℝ) : EReal) * Ideal.exp (Ideal.div (-(d * d)) ((420 : ℝ) : EReal))
        - ((2 : ℝ) : EReal) * Ideal.exp (Ideal.div (-(d * d)) ((140 : ℝ) : EReal)) := by
  rcases square d with h | ⟨r, h⟩
  · rw [h, rate_top (by norm_num), decay_top (by norm_num), decay_top (by norm_num)]; simp
  · rw [h, rate_coe, decay_coe (by norm_num), decay_coe (by norm_num)]
    simp only [← EReal.coe_mul, ← EReal.coe_sub]
    have e1 : -r * (1 / 420) = r * (-1 / 420) := by ring
    have e2 : -r * (1 / 140) = r * (-1 / 420) + (r * (-1 / 420) + r * (-1 / 420)) := by ring
    rw [e1, e2, Real.exp_add, Real.exp_add]
    congr 1; ring

/-- A Z cell: with `a = exp (-d² / 600)`, `a * (1 - 1 * a²) = exp (-d² / 600) - exp (-d² / 200)`. -/
theorem z_poly (d : EReal) :
    Ideal.exp (d * d * ((-1 / 600 : ℝ) : EReal))
        * (((1 : ℝ) : EReal) - ((1 : ℝ) : EReal)
          * (Ideal.exp (d * d * ((-1 / 600 : ℝ) : EReal)) * Ideal.exp (d * d * ((-1 / 600 : ℝ) : EReal))))
      = Ideal.exp (Ideal.div (-(d * d)) ((600 : ℝ) : EReal)) - Ideal.exp (Ideal.div (-(d * d)) ((200 : ℝ) : EReal)) := by
  rcases square d with h | ⟨r, h⟩
  · rw [h, rate_top (by norm_num), decay_top (by norm_num), decay_top (by norm_num)]; simp
  · rw [h, rate_coe, decay_coe (by norm_num), decay_coe (by norm_num)]
    simp only [← EReal.coe_mul, ← EReal.coe_sub]
    have e1 : -r * (1 / 600) = r * (-1 / 600) := by ring
    have e2 : -r * (1 / 200) = r * (-1 / 600) + (r * (-1 / 600) + r * (-1 / 600)) := by ring
    rw [e1, e2, Real.exp_add, Real.exp_add]
    congr 1; ring

/-- A prefactor scaled before it meets its factor, or the product divided after: one value. -/
theorem scale {n : ℝ} (h : n ≠ 0) (p x : EReal) : p * ((1 / n : ℝ) : EReal) * x = Ideal.div (p * x) (n : EReal) := by
  rw [Ideal.div_coe h, mul_right_comm]

end Cert.Cell

end
-- ==== Proof.KernelValue.lean ====
/- What the kernel leaves in its result array: at every index one function (`cell`) of the cell's five values and the two
   prefactors. -/
module

public import proofs.«01_k».proof.Proof.Gen.KernelIdeal.Value
public import Idealize.ShloMosaic.Lib.StableHlo.Run
public import Idealize.ShloMosaic.Lib.Pipeline.ValueKit

@[expose] public section

noncomputable section

namespace Cert.KernelIdeal.CellValue

open Cert.KernelIdeal Cert.KernelIdeal.Gen Idealize.ShloMosaic Idealize.ShloMosaic.TcCoe Idealize.SL.Sem

variable {F : FTy → Type} [FloatOps F] [Named F]

/-- Place `k` of the two prefactors. -/
def word (k : Fin 2) : S2.Idx := fun a => match a with | ⟨0, _⟩ => k

/-- The one index of an array of no axis. -/
def unit : S_.Idx := fun a => a.elim0

/-- The block of results as a function of the input blocks and the two prefactors. -/
def block (x1 x2 x3 : Vec F S524288 .f32) (x4 x5 : Vec F S524288 .i32) (p q : Elt F .f32) : Vec F S524288 .f32 :=
  k0_pay1 x3 x5 (k0_pay2 x1 x2 x4 p q)

/-- One cell's new value: its size, distance, old value, type and update mark, and the two prefactors. -/
def cell (s d h : Elt F .f32) (ty inv : Elt F .i32) (p q : Elt F .f32) : Elt F .f32 :=
  block (fun _ => s) (fun _ => d) (fun _ => h) (fun _ => ty) (fun _ => inv) p q (fun a => match a with | ⟨0, _⟩ => (⟨0, Nat.succ_pos _⟩ : Fin 524288))

/-- A block's element is the cell function of the input blocks' elements at the same place. -/
theorem block_apply (x1 x2 x3 : Vec F S524288 .f32) (x4 x5 : Vec F S524288 .i32) (p q : Elt F .f32) (j : S524288.Idx) :
    block x1 x2 x3 x4 x5 p q j = cell (x1 j) (x2 j) (x3 j) (x4 j) (x5 j) p q := rfl

/-- What the body leaves in the output's block. -/
theorem out_eq (c : Dev nD) (i : grid0.Coords) (arg1 : Memref sig .tc .smem S2 .f32) (h1 : arg1.IsWhole)
    (arg2 : Memref sig .tc .vmem S524288 .f32) (h2 : arg2.IsWhole) (arg3 : Memref sig .tc .vmem S524288 .f32) (h3 : arg3.IsWhole)
    (arg4 : Memref sig .tc .vmem S524288 .f32) (h4 : arg4.IsWhole) (arg5 : Memref sig .tc .vmem S524288 .i32) (h5 : arg5.IsWhole)
    (arg6 : Memref sig .tc .vmem S524288 .i32) (h6 : arg6.IsWhole) (arg7 : Memref sig .tc .vmem S524288 .f32) (h7 : arg7.IsWhole)
    (x0 : Vec F S2 .f32) (x1 x2 x3 : Vec F S524288 .f32) (x4 x5 : Vec F S524288 .i32) :
    out0_A_6 c i arg1 h1 arg2 h2 arg3 h3 arg4 h4 arg5 h5 arg6 h6 arg7 h7 x0 x1 x2 x3 x4 x5
      = block x1 x2 x3 x4 x5 (x0 (word 0)) (x0 (word 1)) := by
  unfold out0_A_6
  frame_out
  exact congrArg₂ (block x1 x2 x3 x4 x5) (congrArg x0 (funext fun a => by match a with | ⟨0, _⟩ => rfl))
    (congrArg x0 (funext fun a => by match a with | ⟨0, _⟩ => rfl))

variable (m : (ℓ : Loc nD τ sig) → Buf (Elt F) ℓ) (ρ : Dev nD → PrngReg)

/-! ## The two prefactors -/

/-- Two one-word arrays joined into one of two words, -/
def join (a b : Vec F S1 .f32) : Vec F S2 .f32 := concatenate S2 0 [⟨S1, a⟩, ⟨S1, b⟩] concatenates_S1_S1_S2_d0

/-- the one index of a one-word array, -/
def one : S1.Idx := fun a => match a with | ⟨0, _⟩ => (⟨0, Nat.one_pos⟩ : Fin 1)

/-- and the joined array's first word, the first array's, -/
theorem join_word0 (a b : Vec F S1 .f32) : join a b (word 0) = a one :=
  concatenate_pair_apply_left 0 a b concatenates_S1_S1_S2_d0 (word 0) rfl one (fun x => by match x with | ⟨0, _⟩ => rfl)
/-- and its second word, the second array's. -/
theorem join_word1 (a b : Vec F S1 .f32) : join a b (word 1) = b one :=
  concatenate_pair_apply_right 0 a b concatenates_S1_S1_S2_d0 (word 1) rfl rfl one
    (fun x hx => absurd (Subsingleton.elim (α := Fin 1) _ _) hx) rfl

/-- The operand that the host builds: the two prefactors joined. -/
theorem V_stack (c : Dev nD) : V m c main_v2
    = join (broadcastInDim S1 ![] bcast_S_S1 (m ((c : Thread nD τ).loc main_arg5)))
        (broadcastInDim S1 ![] bcast_S_S1 (m ((c : Thread nD τ).loc main_arg6))) := by
  simp only [V, hostOps0]
  after_results_simp
  refine congrArg₂ join ?_ ?_ <;> after_results_simp

/-- Its first word is the Y prefactor, -/
theorem V_word0 (c : Dev nD) : V m c main_v2 (word 0) = m ((c : Thread nD τ).loc main_arg5) unit := by
  rw [V_stack, join_word0]
  exact congrArg (m ((c : Thread nD τ).loc main_arg5)) (funext fun a : Fin 0 => a.elim0)

/-- and the second the Z prefactor. -/
theorem V_word1 (c : Dev nD) : V m c main_v2 (word 1) = m ((c : Thread nD τ).loc main_arg6) unit := by
  rw [V_stack, join_word1]
  exact congrArg (m ((c : Thread nD τ).loc main_arg6)) (funext fun a : Fin 0 => a.elim0)

/-! ## The blocks in the arrays -/

/-- The prefactors' window stays at block 0. -/
theorem index0 : ∀ t : Fin cfg0.N, win0_0.index t (0 : Fin 1) = 0 := (by decide +kernel : ∀ t : Fin grid0.N, _)
/-- Window 1 is at block `t` at grid point `t`. -/
theorem index1 : ∀ t : Fin cfg0.N, win0_1.index t (0 : Fin 1) = t.val := (by decide +kernel : ∀ t : Fin grid0.N, _)
/-- Window 2 is at block `t` at grid point `t`. -/
theorem index2 : ∀ t : Fin cfg0.N, win0_2.index t (0 : Fin 1) = t.val := (by decide +kernel : ∀ t : Fin grid0.N, _)
/-- Window 3 is at block `t` at grid point `t`. -/
theorem index3 : ∀ t : Fin cfg0.N, win0_3.index t (0 : Fin 1) = t.val := (by decide +kernel : ∀ t : Fin grid0.N, _)
/-- Window 4 is at block `t` at grid point `t`. -/
theorem index4 : ∀ t : Fin cfg0.N, win0_4.index t (0 : Fin 1) = t.val := (by decide +kernel : ∀ t : Fin grid0.N, _)
/-- Window 5 is at block `t` at grid point `t`. -/
theorem index5 : ∀ t : Fin cfg0.N, win0_5.index t (0 : Fin 1) = t.val := (by decide +kernel : ∀ t : Fin grid0.N, _)
/-- Window 6 is at block `t` at grid point `t`. -/
theorem index6 : ∀ t : Fin cfg0.N, win0_6.index t (0 : Fin 1) = t.val := (by decide +kernel : ∀ t : Fin grid0.N, _)

/-- Place `j` of block `t` of an array. -/
def place (t : Fin cfg0.N) (j : S524288.Idx) : S4194304.Idx := fun a => match a with
  | ⟨0, _⟩ => ⟨t.val * 524288 + (j 0).val, by
      have h := t.isLt
      have hN : cfg0.N = 8 := N_0
      have hj : (j 0).val < 524288 := (j 0).isLt
      show t.val * 524288 + (j 0).val < 4194304
      omega⟩

/-- An index of the prefactors' block is that index of their array. -/
theorem emb0 (t : Fin cfg0.N) (j : S2.Idx) : ((cfg0.win 0).blk t).view.emb j = j := by
  have e := index0 t
  funext a; apply Fin.ext
  match a with
  | ⟨0, _⟩ => show win0_0.index t (0 : Fin 1) * 2 + 1 * (j 0).val = (j 0).val; omega

/-- Index `j` of window 1's block at point `t` is place `j` of block `t` of its array. -/
theorem emb1 (t : Fin cfg0.N) (j : S524288.Idx) : ((cfg0.win 1).blk t).view.emb j = place t j := by
  have e := index1 t
  funext a; apply Fin.ext
  match a with
  | ⟨0, _⟩ => show win0_1.index t (0 : Fin 1) * 524288 + 1 * (j 0).val = t.val * 524288 + (j 0).val; omega

/-- Index `j` of window 2's block at point `t` is place `j` of block `t` of its array. -/
theorem emb2 (t : Fin cfg0.N) (j : S524288.Idx) : ((cfg0.win 2).blk t).view.emb j = place t j := by
  have e := index2 t
  funext a; apply Fin.ext
  match a with
  | ⟨0, _⟩ => show win0_2.index t (0 : Fin 1) * 524288 + 1 * (j 0).val = t.val * 524288 + (j 0).val; omega

/-- Index `j` of window 3's block at point `t` is place `j` of block `t` of its array. -/
theorem emb3 (t : Fin cfg0.N) (j : S524288.Idx) : ((cfg0.win 3).blk t).view.emb j = place t j := by
  have e := index3 t
  funext a; apply Fin.ext
  match a with
  | ⟨0, _⟩ => show win0_3.index t (0 : Fin 1) * 524288 + 1 * (j 0).val = t.val * 524288 + (j 0).val; omega

/-- Index `j` of window 4's block at point `t` is place `j` of block `t` of its array. -/
theorem emb4 (t : Fin cfg0.N) (j : S524288.Idx) : ((cfg0.win 4).blk t).view.emb j = place t j := by
  have e := index4 t
  funext a; apply Fin.ext
  match a with
  | ⟨0, _⟩ => show win0_4.index t (0 : Fin 1) * 524288 + 1 * (j 0).val = t.val * 524288 + (j 0).val; omega

/-- Index `j` of window 5's block at point `t` is place `j` of block `t` of its array. -/
theorem emb5 (t : Fin cfg0.N) (j : S524288.Idx) : ((cfg0.win 5).blk t).view.emb j = place t j := by
  have e := index5 t
  funext a; apply Fin.ext
  match a with
  | ⟨0, _⟩ => show win0_5.index t (0 : Fin 1) * 524288 + 1 * (j 0).val = t.val * 524288 + (j 0).val; omega

/-- Index `j` of window 6's block at point `t` is place `j` of block `t` of its array. -/
theorem emb6 (t : Fin cfg0.N) (j : S524288.Idx) : ((cfg0.win 6).blk t).view.emb j = place t j := by
  have e := index6 t
  funext a; apply Fin.ext
  match a with
  | ⟨0, _⟩ => show win0_6.index t (0 : Fin 1) * 524288 + 1 * (j 0).val = t.val * 524288 + (j 0).val; omega

/-! ## The array after the run -/

/-- The result array as one function of the argument arrays. -/
def result (a0 a1 a2 : Vec F S4194304 .f32) (a3 a4 : Vec F S4194304 .i32) (p q : Vec F S_ .f32) : Vec F S4194304 .f32 :=
  fun i => cell (a0 i) (a1 i) (a2 i) (a3 i) (a4 i) (p unit) (q unit)

/-- The first word that a point reads is the Y prefactor. -/
theorem iblk0_word0 (c : Dev nD) (t : Fin cfg0.N) : iblk m c 0 t (word 0) = m ((c : Thread nD τ).loc main_arg5) unit := by
  show V m c main_v2 (((cfg0.win 0).blk t).view.emb (word 0)) = _; rw [emb0, V_word0]
/-- The second is the Z prefactor. -/
theorem iblk0_word1 (c : Dev nD) (t : Fin cfg0.N) : iblk m c 0 t (word 1) = m ((c : Thread nD τ).loc main_arg6) unit := by
  show V m c main_v2 (((cfg0.win 0).blk t).view.emb (word 1)) = _; rw [emb0, V_word1]
/-- The sizes' block at point `t` holds block `t` of the sizes. -/
theorem iblk1_apply (c : Dev nD) (t : Fin cfg0.N) (j : S524288.Idx) :
    iblk m c 1 t j = m ((c : Thread nD τ).loc main_arg0) (place t j) := by
  show V m c main_arg0 (((cfg0.win 1).blk t).view.emb j) = _; rw [emb1, V_main_arg0]
/-- The distances' block at point `t` holds block `t` of the distances. -/
theorem iblk2_apply (c : Dev nD) (t : Fin cfg0.N) (j : S524288.Idx) :
    iblk m c 2 t j = m ((c : Thread nD τ).loc main_arg1) (place t j) := by
  show V m c main_arg1 (((cfg0.win 2).blk t).view.emb j) = _; rw [emb2, V_main_arg1]
/-- The old values' block at point `t` holds block `t` of the old values. -/
theorem iblk3_apply (c : Dev nD) (t : Fin cfg0.N) (j : S524288.Idx) :
    iblk m c 3 t j = m ((c : Thread nD τ).loc main_arg2) (place t j) := by
  show V m c main_arg2 (((cfg0.win 3).blk t).view.emb j) = _; rw [emb3, V_main_arg2]
/-- The types' block at point `t` holds block `t` of the types. -/
theorem iblk4_apply (c : Dev nD) (t : Fin cfg0.N) (j : S524288.Idx) :
    iblk m c 4 t j = m ((c : Thread nD τ).loc main_arg3) (place t j) := by
  show V m c main_arg3 (((cfg0.win 4).blk t).view.emb j) = _; rw [emb4, V_main_arg3]
/-- The update marks' block at point `t` holds block `t` of the update marks. -/
theorem iblk5_apply (c : Dev nD) (t : Fin cfg0.N) (j : S524288.Idx) :
    iblk m c 5 t j = m ((c : Thread nD τ).loc main_arg4) (place t j) := by
  show V m c main_arg4 (((cfg0.win 5).blk t).view.emb j) = _; rw [emb5, V_main_arg4]

/-- The result array named at a memory's arguments. -/
abbrev resultAt (c : Dev nD) : Vec F S4194304 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What a grid point writes back is its block of the result. -/
theorem flushed_eq (c : Dev nD) (t : Fin cfg0.N) :
    (dats m 0 c).flushed 6 t = ((cfg0.win 6).blk t).view.read (Elt F) (resultAt m c) := by
  rw [Value.flushed6_A, out_eq, iblk0_word0, iblk0_word1]
  funext j
  show block _ _ _ _ _ _ _ j = resultAt m c (((cfg0.win 6).blk t).view.emb j)
  rw [emb6, block_apply, iblk1_apply, iblk2_apply, iblk3_apply, iblk4_apply, iblk5_apply]
  rfl

/-- Every index of the result array lies in some point's block. -/
theorem covered (i : S4194304.Idx) :
    ∃ t : Fin cfg0.N, (cfg0.win 6).flush t = true ∧ i ∈ ((cfg0.win 6).blk t).view.set := by
  have hi : (i 0).val < 4194304 := (i 0).isLt
  have ht : (i 0).val / 524288 < cfg0.N := by rw [show cfg0.N = 8 from N_0]; omega
  refine ⟨⟨(i 0).val / 524288, ht⟩, flush0_6 _, ?_⟩
  have h := ((cfg0.win 6).blk ⟨(i 0).val / 524288, ht⟩).view.emb_mem_set
    (fun a => match a with | ⟨0, _⟩ => ⟨(i 0).val % 524288, Nat.mod_lt _ (by decide)⟩ : S524288.Idx)
  rw [emb6] at h
  have e : place ⟨(i 0).val / 524288, ht⟩
      (fun a => match a with | ⟨0, _⟩ => ⟨(i 0).val % 524288, Nat.mod_lt _ (by decide)⟩ : S524288.Idx) = i := by
    funext a; apply Fin.ext
    match a with
    | ⟨0, _⟩ => show (i 0).val / 524288 * 524288 + (i 0).val % 524288 = (i 0).val; omega
  rwa [e] at h

/-- The result array after the run. -/
theorem final (c : Dev nD) : (dats m 0 c).arrAt 6 cfg0.N = resultAt m c :=
  (dats m 0 c).arrAt_eq_of_cover 6 (resultAt m c) (fun t _ => flushed_eq m c t) covered

end Cert.KernelIdeal.CellValue

end
-- ==== Proof.RefValue.lean ====
/- The reference's result at an index, and that it is the kernel's there: at an updated cell of one of the two types the
   kernel's one formula with selected constants is that type's formula, and any other cell keeps its value in both. -/
module

public import proofs.«01_k».proof.Defs
public import proofs.«01_k».proof.Proof.Cell
public import proofs.«01_k».proof.Proof.KernelValue
public import proofs.«01_k».proof.Proof.Gen.ReferenceIdeal.Run
public import proofs.«01_k».proof.Proof.Gen.Pre_updated_cells_typed
public import Idealize.ShloMosaic.Lib.ReduceAll

@[expose] public section

noncomputable section

namespace Cert.RefValue

open Idealize.ShloMosaic

/-! ## The kernel's named constants -/

/-- The kernel's `y_scale` is 1 / 600. -/
theorem y_scale : Named.named (F := Ideal) Cert.KernelIdeal.κ "y_scale" (φ := .f32) 0x3ADA740E#32 = ((1 / 600 : ℝ) : EReal) :=
  IdealRules.named_const.ideal_named_scalar _ _ _ _ rfl
/-- The kernel's `z_scale` is 1 / 160. -/
theorem z_scale : Named.named (F := Ideal) Cert.KernelIdeal.κ "z_scale" (φ := .f32) 0x3BCCCCCD#32 = ((1 / 160 : ℝ) : EReal) :=
  IdealRules.named_const.ideal_named_scalar _ _ _ _ rfl
/-- The kernel's `y_rate` is -1 / 420. -/
theorem y_rate : Named.named (F := Ideal) Cert.KernelIdeal.κ "y_rate" (φ := .f32) 0xBB1C09C1#32 = ((-1 / 420 : ℝ) : EReal) :=
  IdealRules.named_const.ideal_named_scalar _ _ _ _ rfl
/-- The kernel's `z_rate` is -1 / 600. -/
theorem z_rate : Named.named (F := Ideal) Cert.KernelIdeal.κ "z_rate" (φ := .f32) 0xBADA740E#32 = ((-1 / 600 : ℝ) : EReal) :=
  IdealRules.named_const.ideal_named_scalar _ _ _ _ rfl
/-- The kernel's `base` is the root of the literal 0.5996. -/
theorem base : Named.named (F := Ideal) Cert.KernelIdeal.κ "base" (φ := .f32) 0x3F463B0B#32
    = ((Real.sqrt (10059619 / 16777216) : ℝ) : EReal) :=
  IdealRules.named_const.ideal_named_scalar _ _ _ _ rfl

/-! ## One cell -/

/-- The reference's value of a Y cell of size `s` at distance `d`, `p` the prefactor. -/
def yCell (s d p : EReal) : EReal :=
  Ideal.sqrt (((10059619 / 16777216 : ℝ) : EReal) + Ideal.div (p * (((90 : ℝ) : EReal) - s)) ((600 : ℝ) : EReal)
      * (((3 : ℝ) : EReal) * Ideal.exp (Ideal.div (-(d * d)) ((420 : ℝ) : EReal))
        - ((2 : ℝ) : EReal) * Ideal.exp (Ideal.div (-(d * d)) ((140 : ℝ) : EReal))))
    - ((Real.sqrt (10059619 / 16777216) : ℝ) : EReal)

/-- The reference's value of a Z cell. -/
def zCell (s d p : EReal) : EReal :=
  Ideal.sqrt (((10059619 / 16777216 : ℝ) : EReal) + Ideal.div (p * s) ((160 : ℝ) : EReal)
      * (Ideal.exp (Ideal.div (-(d * d)) ((600 : ℝ) : EReal)) - Ideal.exp (Ideal.div (-(d * d)) ((200 : ℝ) : EReal))))
    - ((Real.sqrt (10059619 / 16777216) : ℝ) : EReal)

/-- A cell that is not updated keeps its value. -/
theorem cell_kept (s d h : EReal) (ty inv : BitVec 32) (p q : EReal) (hi : inv ≠ 1#32) :
    Cert.KernelIdeal.CellValue.cell (F := Ideal) s d h ty inv p q = h := by
  simp [Cert.KernelIdeal.CellValue.cell, Cert.KernelIdeal.CellValue.block, Cert.KernelIdeal.Gen.k0_pay1,
    select, cmpi, broadcast, IntOp.cmpi, Scalar.select, beq_false_of_ne hi]

/-- An updated cell of type 0 is a Y cell. -/
theorem cell_y (s d h : EReal) (p q : EReal) :
    Cert.KernelIdeal.CellValue.cell (F := Ideal) s d h (0#32) (1#32) p q = yCell s d p := by
  show Ideal.sqrt (Ideal.ofBits .f32 0x3F197F63#32
      + p * Named.named (F := Ideal) Cert.KernelIdeal.κ "y_scale" (φ := .f32) 0x3ADA740E#32
          * (Ideal.ofBits .f32 0x42B40000#32 - s)
        * (Ideal.exp (d * d * Named.named (F := Ideal) Cert.KernelIdeal.κ "y_rate" (φ := .f32) 0xBB1C09C1#32)
          * (Ideal.ofBits .f32 0x40400000#32 - Ideal.ofBits .f32 0x40000000#32
            * (Ideal.exp (d * d * Named.named (F := Ideal) Cert.KernelIdeal.κ "y_rate" (φ := .f32) 0xBB1C09C1#32)
              * Ideal.exp (d * d * Named.named (F := Ideal) Cert.KernelIdeal.κ "y_rate" (φ := .f32) 0xBB1C09C1#32)))))
    - Named.named (F := Ideal) Cert.KernelIdeal.κ "base" (φ := .f32) 0x3F463B0B#32 = _
  rw [y_scale, y_rate, base, Cell.lit_base, Cell.lit_90, Cell.lit_3, Cell.lit_2, Cell.y_poly, Cell.scale (by norm_num)]
  rfl

/-- An updated cell of type 1 is a Z cell. -/
theorem cell_z (s d h : EReal) (p q : EReal) :
    Cert.KernelIdeal.CellValue.cell (F := Ideal) s d h (1#32) (1#32) p q = zCell s d q := by
  show Ideal.sqrt (Ideal.ofBits .f32 0x3F197F63#32
      + q * Named.named (F := Ideal) Cert.KernelIdeal.κ "z_scale" (φ := .f32) 0x3BCCCCCD#32 * s
        * (Ideal.exp (d * d * Named.named (F := Ideal) Cert.KernelIdeal.κ "z_rate" (φ := .f32) 0xBADA740E#32)
          * (Ideal.ofBits .f32 0x3F800000#32 - Ideal.ofBits .f32 0x3F800000#32
            * (Ideal.exp (d * d * Named.named (F := Ideal) Cert.KernelIdeal.κ "z_rate" (φ := .f32) 0xBADA740E#32)
              * Ideal.exp (d * d * Named.named (F := Ideal) Cert.KernelIdeal.κ "z_rate" (φ := .f32) 0xBADA740E#32)))))
    - Named.named (F := Ideal) Cert.KernelIdeal.κ "base" (φ := .f32) 0x3F463B0B#32 = _
  rw [z_scale, z_rate, base, Cell.lit_base, Cell.lit_1, Cell.z_poly, Cell.scale (by norm_num)]
  rfl

/-! ## The whole array -/

open Cert.ReferenceIdeal Cert.ReferenceIdeal.Gen

/-- The reference's Y values of all the cells, as its operations on arrays. -/
def ys (a0 a1 : FVec Ideal S4194304 .f32) (p : FVec Ideal S_ .f32) : FVec Ideal S4194304 .f32 :=
  subf (Host.sqrt (addf (broadcastInDim S4194304 ![] bcast_S_S4194304 (constant S_ .f32 0x3F197F63#32)) (mulf (Host.divf (mulf (broadcastInDim S4194304 ![] bcast_S_S4194304 p) (subf (broadcastInDim S4194304 ![] bcast_S_S4194304 (constant S_ .f32 0x42B40000#32)) a0)) (broadcastInDim S4194304 ![] bcast_S_S4194304 (constant S_ .f32 0x44160000#32))) (subf (mulf (broadcastInDim S4194304 ![] bcast_S_S4194304 (constant S_ .f32 0x40400000#32)) (Host.exp (Host.divf (Host.negf (mulf a1 a1)) (broadcastInDim S4194304 ![] bcast_S_S4194304 (constant S_ .f32 0x43D20000#32))))) (mulf (broadcastInDim S4194304 ![] bcast_S_S4194304 (constant S_ .f32 0x40000000#32)) (Host.exp (Host.divf (Host.negf (mulf a1 a1)) (broadcastInDim S4194304 ![] bcast_S_S4194304 (constant S_ .f32 0x430C0000#32))))))))) (broadcastInDim S4194304 ![] bcast_S_S4194304 (Host.sqrt (constant S_ .f32 0x3F197F63#32)))

/-- The same of its Z values. -/
def zs (a0 a1 : FVec Ideal S4194304 .f32) (q : FVec Ideal S_ .f32) : FVec Ideal S4194304 .f32 :=
  subf (Host.sqrt (addf (broadcastInDim S4194304 ![] bcast_S_S4194304 (constant S_ .f32 0x3F197F63#32)) (mulf (Host.divf (mulf (broadcastInDim S4194304 ![] bcast_S_S4194304 q) a0) (broadcastInDim S4194304 ![] bcast_S_S4194304 (constant S_ .f32 0x43200000#32))) (subf (Host.exp (Host.divf (Host.negf (mulf a1 a1)) (broadcastInDim S4194304 ![] bcast_S_S4194304 (constant S_ .f32 0x44160000#32)))) (Host.exp (Host.divf (Host.negf (mulf a1 a1)) (broadcastInDim S4194304 ![] bcast_S_S4194304 (constant S_ .f32 0x43480000#32)))))))) (broadcastInDim S4194304 ![] bcast_S_S4194304 (Host.sqrt (constant S_ .f32 0x3F197F63#32)))

/-- A prefactor spread over the cells is the prefactor at each. -/
theorem spread (p : FVec Ideal S_ .f32) (i : S4194304.Idx) :
    broadcastInDim S4194304 ![] bcast_S_S4194304 p i = p Cert.KernelIdeal.CellValue.unit :=
  congrArg p (funext fun a : Fin 0 => a.elim0)

/-- The Y array at an index is that cell's Y value, -/
theorem ys_apply (a0 a1 : FVec Ideal S4194304 .f32) (p : FVec Ideal S_ .f32) (i : S4194304.Idx) :
    ys a0 a1 p i = yCell (a0 i) (a1 i) (p Cert.KernelIdeal.CellValue.unit) := by
  rw [← spread p i]
  show Ideal.sqrt (Ideal.ofBits .f32 0x3F197F63#32 + Ideal.div (_ * (Ideal.ofBits .f32 0x42B40000#32 - a0 i)) (Ideal.ofBits .f32 0x44160000#32)
      * (Ideal.ofBits .f32 0x40400000#32 * Ideal.exp (Ideal.div (-(a1 i * a1 i)) (Ideal.ofBits .f32 0x43D20000#32))
        - Ideal.ofBits .f32 0x40000000#32 * Ideal.exp (Ideal.div (-(a1 i * a1 i)) (Ideal.ofBits .f32 0x430C0000#32))))
    - Ideal.sqrt (Ideal.ofBits .f32 0x3F197F63#32) = _
  rw [Cell.lit_base, Cell.lit_90, Cell.lit_600, Cell.lit_3, Cell.lit_420, Cell.lit_2, Cell.lit_140, Cell.sqrt_base]
  rfl

/-- and the Z array its Z value. -/
theorem zs_apply (a0 a1 : FVec Ideal S4194304 .f32) (q : FVec Ideal S_ .f32) (i : S4194304.Idx) :
    zs a0 a1 q i = zCell (a0 i) (a1 i) (q Cert.KernelIdeal.CellValue.unit) := by
  rw [← spread q i]
  show Ideal.sqrt (Ideal.ofBits .f32 0x3F197F63#32 + Ideal.div (_ * a0 i) (Ideal.ofBits .f32 0x43200000#32)
      * (Ideal.exp (Ideal.div (-(a1 i * a1 i)) (Ideal.ofBits .f32 0x44160000#32))
        - Ideal.exp (Ideal.div (-(a1 i * a1 i)) (Ideal.ofBits .f32 0x43480000#32))))
    - Ideal.sqrt (Ideal.ofBits .f32 0x3F197F63#32) = _
  rw [Cell.lit_base, Cell.lit_160, Cell.lit_600, Cell.lit_200, Cell.sqrt_base]
  rfl

/-- Of a memory's arguments that satisfy the precondition, an updated cell is of type 0 or 1. -/
theorem typed (a0 a1 a2 : FVec Ideal S4194304 .f32) (a3 a4 : IVec S4194304 32) (p q : FVec Ideal S_ .f32)
    (h : Cert.Pre_updated_cells_typed.fn (F := Ideal) a0 a1 a2 a3 a4 p q = fun _ => 1#1) (i : S4194304.Idx) (hi : a4 i = 1#32) :
    a3 i = 0#32 ∨ a3 i = 1#32 := by
  have e := congrFun h Cert.KernelIdeal.CellValue.unit
  dsimp only [Cert.Pre_updated_cells_typed.fn] at e
  haveI : Subsingleton Cert.Pre_updated_cells_typed.S_.Idx := ⟨fun x y => funext fun a : Fin 0 => a.elim0⟩
  have w := Host.reduce_andi_all _ _ _ _ _ e i
  change IntOp.ori (IntOp.ori (IntOp.cmpi .ne (a4 i) 1#32) (IntOp.cmpi .eq (a3 i) 0#32)) (IntOp.cmpi .eq (a3 i) 1#32) = 1#1 at w
  by_contra hc
  obtain ⟨c0, c1⟩ := not_or.mp hc
  rw [hi] at w
  simp [IntOp.ori, IntOp.cmpi, beq_false_of_ne c0, beq_false_of_ne c1] at w

/-- The reference's result array is the kernel's. -/
theorem result_eq (a0 a1 a2 : FVec Ideal S4194304 .f32) (a3 a4 : IVec S4194304 32) (p q : FVec Ideal S_ .f32)
    (h : Cert.Pre_updated_cells_typed.fn (F := Ideal) a0 a1 a2 a3 a4 p q = fun _ => 1#1) :
    select (andi (cmpi .eq a3 (broadcastInDim S4194304 ![] bcast_S_S4194304 (constantI S_ 32 1#32))) (cmpi .eq a4 (broadcastInDim S4194304 ![] bcast_S_S4194304 (constantI S_ 32 1#32)))) (zs a0 a1 q)
      (select (andi (cmpi .eq a3 (broadcastInDim S4194304 ![] bcast_S_S4194304 (constantI S_ 32 0#32))) (cmpi .eq a4 (broadcastInDim S4194304 ![] bcast_S_S4194304 (constantI S_ 32 1#32)))) (ys a0 a1 p) a2)
    = Cert.KernelIdeal.CellValue.result (F := Ideal) a0 a1 a2 a3 a4 p q := by
  funext i
  show Scalar.select (IntOp.andi (IntOp.cmpi .eq (a3 i) 1#32) (IntOp.cmpi .eq (a4 i) 1#32)) (zs a0 a1 q i)
      (Scalar.select (IntOp.andi (IntOp.cmpi .eq (a3 i) 0#32) (IntOp.cmpi .eq (a4 i) 1#32)) (ys a0 a1 p i) (a2 i))
    = Cert.KernelIdeal.CellValue.cell (F := Ideal) (a0 i) (a1 i) (a2 i) (a3 i) (a4 i) (p Cert.KernelIdeal.CellValue.unit)
        (q Cert.KernelIdeal.CellValue.unit)
  by_cases hi : a4 i = 1#32
  · rcases typed a0 a1 a2 a3 a4 p q h i hi with ht | ht
    · rw [ht, hi, cell_y, ← ys_apply]; rfl
    · rw [ht, hi, cell_z, ← zs_apply]; rfl
  · rw [cell_kept _ _ _ _ _ _ _ hi]
    simp [IntOp.andi, IntOp.cmpi, Scalar.select, beq_false_of_ne hi]

end Cert.RefValue

end
-- ==== Proof.lean ====
/- The claims: each program ends with its arguments unchanged and its counters at zero; the kernel's named constants are the
   table's values; and over the reals the kernel and the reference end with one result array. -/
module

public import proofs.«01_k».proof.Proof.RefValue
public import proofs.«01_k».proof.Proof.Gen.Kernel.Frame
public import Idealize.ShloMosaic.Lib.Quiescent

@[expose] public section

noncomputable section

namespace Cert.Proof

open Idealize.ShloMosaic Idealize.ShloMosaic.TcCoe Idealize.SL.Sem

/-- The kernel as written ends, with its arguments unchanged and every counter at zero. -/
theorem frame_kernel : Cert.quiescent_Kernel := fun m ρ _ => Cert.Kernel.Gen.frame m ρ
/-- So does the kernel over the reals, -/
theorem frame_ideal : Cert.quiescent_KernelIdeal := fun m ρ _ => Cert.KernelIdeal.Gen.frame m ρ
/-- under the precondition too. -/
theorem frame_ideal_pre : Cert.quiescent_KernelIdeal_pre_updated_cells_typed := fun m ρ _ => Cert.KernelIdeal.Gen.frame m ρ

/-- So does the reference over the reals, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- under the precondition too. -/
theorem frame_reference_pre : Cert.quiescent_ReferenceIdeal_pre_updated_cells_typed := fun m ρ _ => frame_reference m ρ trivial

/-- Each named constant has its table's value. -/
theorem preserves : Cert.preserves_Kernel_KernelIdeal :=
  ⟨IdealRules.named_const.statement Cert.KernelIdeal.κ "y_scale" .f32 0x3ADA740E#32 ((1 / 600 : ℝ) : EReal) rfl,
    IdealRules.named_const.statement Cert.KernelIdeal.κ "z_scale" .f32 0x3BCCCCCD#32 ((1 / 160 : ℝ) : EReal) rfl,
    IdealRules.named_const.statement Cert.KernelIdeal.κ "y_rate" .f32 0xBB1C09C1#32 ((-1 / 420 : ℝ) : EReal) rfl,
    IdealRules.named_const.statement Cert.KernelIdeal.κ "z_rate" .f32 0xBADA740E#32 ((-1 / 600 : ℝ) : EReal) rfl,
    IdealRules.named_const.statement Cert.KernelIdeal.κ "base" .f32 0x3F463B0B#32
      ((Real.sqrt (10059619 / 16777216) : ℝ) : EReal) rfl⟩

/-- Where every updated cell is of one of the two types, the kernel and the reference, of the same arguments, end with the
    same result array over the reals. -/
theorem algebraic : Cert.algebraic_KernelIdeal_ReferenceIdeal_pre_updated_cells_typed := by
  intro m ρ m' ρ' hpre hagree
  refine ⟨fun c => Cert.KernelIdeal.CellValue.resultAt (F := Ideal) m c,
    (θ_run Cert.KernelIdeal.defs _ _).mono
      (fun _ h c => ⟨(h c).1.trans (Cert.KernelIdeal.CellValue.final (F := Ideal) m c), (h c).2⟩)
      (Cert.KernelIdeal.Value.run_blocks (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  exact Cert.RefValue.result_eq _ _ _ _ _ _ _ (hpre c)

/-- All the claims. -/
theorem claim : Cert.Claim :=
  ⟨Cert.Kernel.Gen.facts, Cert.KernelIdeal.Gen.facts, Cert.ReferenceIdeal.Gen.facts, Cert.Pre_updated_cells_typed.Gen.facts,
    frame_kernel, frame_ideal, frame_ideal_pre, frame_reference, frame_reference_pre, preserves, algebraic⟩

end Cert.Proof

end
